-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_shared_infinity [hPre_no_shared_infinity : Cert.Pre_no_shared_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_no_shared_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_shared_infinity [hPre_no_shared_infinity : Cert.Pre_no_shared_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_shared_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_no_shared_infinity [hKernelIdeal : Cert.KernelIdeal.Facts] [hPre_no_shared_infinity : Cert.Pre_no_shared_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_shared_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_no_shared_infinity [hReferenceIdeal : Cert.ReferenceIdeal.Facts] [hPre_no_shared_infinity : Cert.Pre_no_shared_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_shared_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_no_shared_infinity [hKernelIdeal : Cert.KernelIdeal.Facts] [hReferenceIdeal : Cert.ReferenceIdeal.Facts] [hPre_no_shared_infinity : Cert.Pre_no_shared_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_shared_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_no_shared_infinity : Cert.Pre_no_shared_infinity.Facts),
    quiescent_Kernel (hKernel := hKernel)
    ∧ quiescent_KernelIdeal (hKernelIdeal := hKernelIdeal)
    ∧ quiescent_KernelIdeal_pre_no_shared_infinity (hKernelIdeal := hKernelIdeal) (hPre_no_shared_infinity := hPre_no_shared_infinity)
    ∧ quiescent_ReferenceIdeal (hReferenceIdeal := hReferenceIdeal)
    ∧ quiescent_ReferenceIdeal_pre_no_shared_infinity (hReferenceIdeal := hReferenceIdeal) (hPre_no_shared_infinity := hPre_no_shared_infinity)
    ∧ preserves_Kernel_KernelIdeal
    ∧ algebraic_KernelIdeal_ReferenceIdeal_pre_no_shared_infinity (hKernelIdeal := hKernelIdeal) (hReferenceIdeal := hReferenceIdeal) (hPre_no_shared_infinity := hPre_no_shared_infinity)
-- ==== Pre_no_shared_infinity.lean ====
abbrev S1024x1 : Shape := ⟨2, ![1024, 1]⟩
abbrev S1x200 : Shape := ⟨2, ![1, 200]⟩
abbrev S1024 : Shape := ⟨1, ![1024]⟩
abbrev S1x200x1000 : Shape := ⟨3, ![1, 200, 1000]⟩
abbrev S1000x1000 : Shape := ⟨2, ![1000, 1000]⟩
abbrev S1024x200 : Shape := ⟨2, ![1024, 200]⟩
abbrev S_ : Shape := ⟨0, ![]⟩

class Facts : Prop where
  bcast_S1024x1_S1024x200_0_1 : S1024x1.BroadcastsInDim S1024x200 (![0, 1] : Fin 2 → Fin S1024x200.rank)
  bcast_S1x200_S1024x200_0_1 : S1x200.BroadcastsInDim S1024x200 (![0, 1] : Fin 2 → Fin S1024x200.rank)
  bcast_S_S1x200 : S_.BroadcastsInDim S1x200 (![] : Fin 0 → Fin S1x200.rank)
  reducesTo_S1024x200_S_d0_1 : S1024x200.ReducesTo [0, 1] S_
  h_S_ : 0 < S_.numel

variable [Facts]

def fn {F : FTy → Type} [FloatOps F] (main_arg0 : FVec F S1024x1 .f32) (main_arg1 : FVec F S1x200 .f32) (main_arg2 : IVec S1024 32) (main_arg3 : IVec S1x200x1000 32) (main_arg4 : FVec F S1000x1000 .f32) : IVec S_ 1 :=
  let main_v0 : FVec F S1024x200 .f32 := broadcastInDim S1024x200 ![0, 1] bcast_S1024x1_S1024x200_0_1 main_arg0
  let main_v1 : FVec F S1024x200 .f32 := broadcastInDim S1024x200 ![0, 1] bcast_S1x200_S1024x200_0_1 main_arg1
  let main_v2 : IVec S1024x200 1 := cmpf .une main_v0 main_v1
  let main_v3 : FVec F S1x200 .f32 := Host.absf main_arg1
  let main_cst : FVec F S_ .f32 := constant S_ .f32 0x7F800000#32
  let main_v4 : FVec F S1x200 .f32 := broadcastInDim S1x200 ![] bcast_S_S1x200 main_cst
  let main_v5 : IVec S1x200 1 := cmpf .olt main_v3 main_v4
  let main_v6 : IVec S1024x200 1 := broadcastInDim S1024x200 ![0, 1] bcast_S1x200_S1024x200_0_1 main_v5
  let main_v7 : IVec S1024x200 1 := ori main_v2 main_v6
  let main_c : IVec S_ 1 := constantI S_ 1 1#1
  let main_v8 : IVec S_ 1 := (fun x v => Host.reduce IntOp.andi x v reducesTo_S1024x200_S_d0_1 h_S_) main_v7 main_c
  main_v8
-- ==== Kernel.lean ====
abbrev S1024x1 : Shape := ⟨2, ![1024, 1]⟩
abbrev S1x200 : Shape := ⟨2, ![1, 200]⟩
abbrev S1024 : Shape := ⟨1, ![1024]⟩
abbrev S1x200x1000 : Shape := ⟨3, ![1, 200, 1000]⟩
abbrev S1000x1000 : Shape := ⟨2, ![1000, 1000]⟩
abbrev S1000x1024 : Shape := ⟨2, ![1000, 1024]⟩
abbrev S200x1000 : Shape := ⟨2, ![200, 1000]⟩
abbrev S200x1024 : Shape := ⟨2, ![200, 1024]⟩
abbrev S200 : Shape := ⟨1, ![200]⟩
abbrev S200x1 : Shape := ⟨2, ![200, 1]⟩
abbrev S1x1024 : Shape := ⟨2, ![1, 1024]⟩
abbrev S200x200 : Shape := ⟨2, ![200, 200]⟩
abbrev S1000x1024x1 : Shape := ⟨3, ![1000, 1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S1024x1, .f32⟩
  | .hbm, ⟨1, _⟩ => ⟨S1x200, .f32⟩
  | .hbm, ⟨2, _⟩ => ⟨S1024, .i32⟩
  | .hbm, ⟨3, _⟩ => ⟨S1x200x1000, .i32⟩
  | .hbm, ⟨4, _⟩ => ⟨S1000x1000, .f32⟩
  | .hbm, ⟨5, _⟩ => ⟨S1000x1024, .f32⟩
  | .hbm, ⟨6, _⟩ => ⟨S1000x1024x1, .f32⟩
  | .local _ .vmem, ⟨0, _⟩ => ⟨S1024x1, .f32⟩
  | .local _ .vmem, ⟨1, _⟩ => ⟨S1x200, .f32⟩
  | .local _ .vmem, ⟨2, _⟩ => ⟨S1x200x1000, .i32⟩
  | .local _ .vmem, ⟨3, _⟩ => ⟨S200x1000, .f32⟩
  | .local _ .vmem, ⟨4, _⟩ => ⟨S200x1000, .f32⟩
  | .local _ .vmem, ⟨5, _⟩ => ⟨S200x1024, .f32⟩
  | .local _ .vmem, ⟨6, _⟩ => ⟨S200x1024, .f32⟩
  | _, _ => ⟨S1024x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x200 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x200x1000 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1024x1 : Shape := ⟨2, ![1024, 1]⟩
abbrev S1x200 : Shape := ⟨2, ![1, 200]⟩
abbrev S1024 : Shape := ⟨1, ![1024]⟩
abbrev S1x200x1000 : Shape := ⟨3, ![1, 200, 1000]⟩
abbrev S1000x1000 : Shape := ⟨2, ![1000, 1000]⟩
abbrev S1x1024x1x1 : Shape := ⟨4, ![1, 1024, 1, 1]⟩
abbrev S1x1024x200x1 : Shape := ⟨4, ![1, 1024, 200, 1]⟩
abbrev S1024x200 : Shape := ⟨2, ![1024, 200]⟩
abbrev S_ : Shape := ⟨0, ![]⟩
abbrev S200x1000 : Shape := ⟨2, ![200, 1000]⟩
abbrev S1024x1000 : Shape := ⟨2, ![1024, 1000]⟩
abbrev S1000x1024 : Shape := ⟨2, ![1000, 1024]⟩
abbrev S1000x1024x1 : Shape := ⟨3, ![1000, 1024, 1]⟩

abbrev nBuf : Space → Nat
  | .hbm => 21
  | .vmem => 0
  | .smem => 0
  | _ => 0

abbrev bufTy : (tb : Table) → Fin (tcTables nBuf tb) → BufTy
  | .hbm, ⟨0, _⟩ => ⟨S1024x1, .f32⟩
  | .hbm, ⟨1, _⟩ => ⟨S1x200, .f32⟩
  | .hbm, ⟨2, _⟩ => ⟨S1024, .i32⟩
  | .hbm, ⟨3, _⟩ => ⟨S1x200x1000, .i32⟩
  | .hbm, ⟨4, _⟩ => ⟨S1000x1000, .f32⟩
  | .hbm, ⟨5, _⟩ => ⟨S1x1024x1x1, .f32⟩
  | .hbm, ⟨6, _⟩ => ⟨S1x1024x200x1, .f32⟩
  | .hbm, ⟨7, _⟩ => ⟨S1024x200, .f32⟩
  | .hbm, ⟨8, _⟩ => ⟨S1024x200, .f32⟩
  | .hbm, ⟨9, _⟩ => ⟨S1024x200, .f32⟩
  | .hbm, ⟨10, _⟩ => ⟨S_, .f32⟩
  | .hbm, ⟨11, _⟩ => ⟨S1024x200, .f32⟩
  | .hbm, ⟨12, _⟩ => ⟨S1024x200, .f32⟩
  | .hbm, ⟨13, _⟩ => ⟨S1024x200, .f32⟩
  | .hbm, ⟨14, _⟩ => ⟨S200x1000, .i32⟩
  | .hbm, ⟨15, _⟩ => ⟨S200x1000, .f32⟩
  | .hbm, ⟨16, _⟩ => ⟨S1000x1000, .f32⟩
  | .hbm, ⟨17, _⟩ => ⟨S200x1000, .f32⟩
  | .hbm, ⟨18, _⟩ => ⟨S1024x1000, .f32⟩
  | .hbm, ⟨19, _⟩ => ⟨S1000x1024, .f32⟩
  | .hbm, ⟨20, _⟩ => ⟨S1000x1024x1, .f32⟩
  | _, _ => ⟨S1024x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Scores.lean ====
/- One score of the model, as an extended real: a node's embedding row against a history of past events, each event
   weighted by the exponential of how far it lies behind the present time. The kernel and the reference write this
   score down in two ways; here the two are stated, apart from either program, and shown equal wherever no past time
   and the present time are the same infinity. -/
module

public import Idealize.ShloMosaic.PureOps.Ideal.Laws

@[expose] public section

noncomputable section

namespace Cert.Scores

open Idealize.ShloMosaic

/-- The score as the kernel forms it: the row against each past event first, then the weights, each the exponential
    of past time less present time. -/
def kernelScore (row : Fin 1000 → EReal) (hist : Fin 200 → Fin 1000 → EReal) (past : Fin 200 → EReal) (now : EReal) : EReal :=
  ∑ l : Fin 200, (∑ k : Fin 1000, row k * hist l k) * Ideal.exp (past l - now)

/-- The score as the reference forms it: each weight is the exponential of minus one times the elapsed time, and
    stands to the left of the event's product with the row. -/
def referenceScore (row : Fin 1000 → EReal) (hist : Fin 200 → Fin 1000 → EReal) (past : Fin 200 → EReal) (now : EReal) : EReal :=
  ∑ l : Fin 200, Ideal.exp (-1 * (now - past l)) * ∑ k : Fin 1000, hist l k * row k

/-- The two ways of writing an elapsed time: past less present is minus one times present less past, unless the two
    are the same infinity. (There both differences are `⊥`, and negating one of them gives `⊤`.) -/
theorem sub_eq_neg_one_mul (now past : EReal) (h : now ≠ past ∨ (past ≠ ⊥ ∧ past ≠ ⊤)) :
    past - now = -1 * (now - past) := by
  have hbot : now ≠ ⊥ ∨ past ≠ ⊥ := by
    rcases h with h | h
    · by_contra hc
      rw [not_or, not_not, not_not] at hc
      exact h (hc.1.trans hc.2.symm)
    · exact .inr h.1
  have htop : now ≠ ⊤ ∨ past ≠ ⊤ := by
    rcases h with h | h
    · by_contra hc
      rw [not_or, not_not, not_not] at hc
      exact h (hc.1.trans hc.2.symm)
    · exact .inr h.2
  rw [neg_one_mul, EReal.neg_sub hbot htop, sub_eq_add_neg, add_comm]

/-- The two scores are equal when no past time is an infinity the present time is too: the products commute and the
    exponents agree. -/
theorem kernelScore_eq_referenceScore (row : Fin 1000 → EReal) (hist : Fin 200 → Fin 1000 → EReal) (past : Fin 200 → EReal)
    (now : EReal) (h : ∀ l, now ≠ past l ∨ (past l ≠ ⊥ ∧ past l ≠ ⊤)) :
    kernelScore row hist past now = referenceScore row hist past now := by
  unfold kernelScore referenceScore
  refine Finset.sum_congr rfl fun l _ => ?_
  rw [sub_eq_neg_one_mul now (past l) (h l), mul_comm]
  exact congrArg _ (Finset.sum_congr rfl fun k _ => mul_comm _ _)

end Cert.Scores

end
-- ==== Proof.Block.lean ====
/- What the kernel's body computes from the blocks it loads: element (r, b) of the block it stores is the kernel's score
   of row r of the embedding block at the b-th present time. -/
module

public import proofs.«01_k».proof.Proof.Scores
public import proofs.«01_k».proof.Proof.Gen.KernelIdeal.Skeleton
public import Idealize.ShloMosaic.Lib.Pipeline.Value
public import Idealize.ShloMosaic.Lib.ValueIdx

@[expose] public section

noncomputable section

namespace Cert.KernelIdeal.Block

open Cert.KernelIdeal Cert.KernelIdeal.Gen Cert.Scores Idealize.ShloMosaic Idealize.ShloMosaic.ValueIdx

/-! ## The two products -/

/-- The first product's left operand is read at the output's row and the summed column, -/
theorem first_left (r l : Fin 200) (k : Fin 1000) (q : dot_S200x1000_S200x1000_S200x200_1_1_0_0_n_n.contr.Idx)
    (hq : (q ⟨0, by decide⟩ : ℕ) = k.val) :
    dot_S200x1000_S200x1000_S200x200_1_1_0_0_n_n.lhsIdx (ix2 r l) q = ix2 r k := funext fun a => Fin.ext (by
  match a with
  | ⟨0, _⟩ =>
    show (DotDims.lhsIdx _ _ _ (0 : Fin S200x1000.rank)).val = r.val
    unfold DotDims.lhsIdx
    rw [dif_neg (show ¬(0 : Fin S200x1000.rank) ∈ dot_S200x1000_S200x1000_S200x200_1_1_0_0_n_n.lhsBatch by decide),
      dif_pos (show (0 : Fin S200x1000.rank) ∈ dot_S200x1000_S200x1000_S200x200_1_1_0_0_n_n.lhsNonContracting by decide)]
    rfl
  | ⟨1, _⟩ => exact (dot_S200x1000_S200x1000_S200x200_1_1_0_0_n_n.lhsIdx_val_of_single rfl _ q).trans hq)

/-- and its right operand, contracted on its columns too, at the output's column and the summed column. -/
theorem first_right (r l : Fin 200) (k : Fin 1000) (q : dot_S200x1000_S200x1000_S200x200_1_1_0_0_n_n.contr.Idx)
    (hq : (q ⟨0, by decide⟩ : ℕ) = k.val) :
    dot_S200x1000_S200x1000_S200x200_1_1_0_0_n_n.rhsIdx (ix2 r l) q = ix2 l k := funext fun a => Fin.ext (by
  match a with
  | ⟨0, _⟩ =>
    show (DotDims.rhsIdx _ _ _ (0 : Fin S200x1000.rank)).val = l.val
    unfold DotDims.rhsIdx
    rw [dif_neg (show ¬(0 : Fin S200x1000.rank) ∈ dot_S200x1000_S200x1000_S200x200_1_1_0_0_n_n.rhsBatch by decide),
      dif_pos (show (0 : Fin S200x1000.rank) ∈ dot_S200x1000_S200x1000_S200x200_1_1_0_0_n_n.rhsNonContracting by decide)]
    rfl
  | ⟨1, _⟩ => exact (dot_S200x1000_S200x1000_S200x200_1_1_0_0_n_n.rhsIdx_val_of_single rfl _ q).trans hq)

/-- The first product at (r, l): row r of the left operand against row l of the right one. -/
theorem first_product (x y : FVec Ideal S200x1000 .f32) (r l : Fin 200) :
    matmul dot_S200x1000_S200x1000_S200x200_1_1_0_0_n_n none x y (constant S200x200 .f32 0x00000000#32) (ix2 r l)
      = ∑ k : Fin 1000, x (ix2 r k) * y (ix2 l k) := by
  simp only [matmul]
  rw [Ideal.matmul_constant_zero_apply,
    ← Equiv.sum_comp (contrEquiv1 dot_S200x1000_S200x1000_S200x200_1_1_0_0_n_n 1000 rfl rfl).symm]
  refine Finset.sum_congr rfl fun k _ => ?_
  have hk := contrEquiv1_symm_val dot_S200x1000_S200x1000_S200x200_1_1_0_0_n_n 1000 rfl rfl k
  rw [first_left r l k _ hk, first_right r l k _ hk]

/-- The second product's left operand is read at the output's row and the summed column, -/
theorem second_left (r l : Fin 200) (b : Fin 1024) (q : dot_S200x200_S200x1024_S200x1024_1_0_0_1_n_n.contr.Idx)
    (hq : (q ⟨0, by decide⟩ : ℕ) = l.val) :
    dot_S200x200_S200x1024_S200x1024_1_0_0_1_n_n.lhsIdx (ix2 r b) q = ix2 r l := funext fun a => Fin.ext (by
  match a with
  | ⟨0, _⟩ =>
    show (DotDims.lhsIdx _ _ _ (0 : Fin S200x200.rank)).val = r.val
    unfold DotDims.lhsIdx
    rw [dif_neg (show ¬(0 : Fin S200x200.rank) ∈ dot_S200x200_S200x1024_S200x1024_1_0_0_1_n_n.lhsBatch by decide),
      dif_pos (show (0 : Fin S200x200.rank) ∈ dot_S200x200_S200x1024_S200x1024_1_0_0_1_n_n.lhsNonContracting by decide)]
    rfl
  | ⟨1, _⟩ => exact (dot_S200x200_S200x1024_S200x1024_1_0_0_1_n_n.lhsIdx_val_of_single rfl _ q).trans hq)

/-- and its right operand at the summed row and the output's column. -/
theorem second_right (r l : Fin 200) (b : Fin 1024) (q : dot_S200x200_S200x1024_S200x1024_1_0_0_1_n_n.contr.Idx)
    (hq : (q ⟨0, by decide⟩ : ℕ) = l.val) :
    dot_S200x200_S200x1024_S200x1024_1_0_0_1_n_n.rhsIdx (ix2 r b) q = ix2 l b := funext fun a => Fin.ext (by
  match a with
  | ⟨0, _⟩ => exact (dot_S200x200_S200x1024_S200x1024_1_0_0_1_n_n.rhsIdx_val_of_single rfl _ q).trans hq
  | ⟨1, _⟩ =>
    show (DotDims.rhsIdx _ _ _ (1 : Fin S200x1024.rank)).val = b.val
    unfold DotDims.rhsIdx
    rw [dif_neg (show ¬(1 : Fin S200x1024.rank) ∈ dot_S200x200_S200x1024_S200x1024_1_0_0_1_n_n.rhsBatch by decide),
      dif_pos (show (1 : Fin S200x1024.rank) ∈ dot_S200x200_S200x1024_S200x1024_1_0_0_1_n_n.rhsNonContracting by decide)]
    rfl)

/-- The second product at (r, b): row r of the left operand against column b of the right one. -/
theorem second_product (x : FVec Ideal S200x200 .f32) (y : FVec Ideal S200x1024 .f32) (r : Fin 200) (b : Fin 1024) :
    matmul dot_S200x200_S200x1024_S200x1024_1_0_0_1_n_n none x y (constant S200x1024 .f32 0x00000000#32) (ix2 r b)
      = ∑ l : Fin 200, x (ix2 r l) * y (ix2 l b) := by
  simp only [matmul]
  rw [Ideal.matmul_constant_zero_apply,
    ← Equiv.sum_comp (contrEquiv1 dot_S200x200_S200x1024_S200x1024_1_0_0_1_n_n 200 rfl rfl).symm]
  refine Finset.sum_congr rfl fun l _ => ?_
  have hl := contrEquiv1_symm_val dot_S200x200_S200x1024_S200x1024_1_0_0_1_n_n 200 rfl rfl l
  rw [second_left r l b _ hl, second_right r l b _ hl]

/-! ## The operands' layout -/

/-- The past times, laid out as one row, turned into a column and repeated along the batch: at (l, b), past time l. -/
theorem past_apply (x : FVec Ideal S1x200 .f32) (l : Fin 200) (b : Fin 1024) :
    broadcastTo S200x1024 (shapeCast S200x1 (shapeCast S200 x shapeCasts_S1x200_S200) shapeCasts_S200_S200x1)
      broadcasts_S200x1_S200x1024 (ix2 l b) = x (ix2 0 l) := by
  refine (broadcastTo_apply _ _ _ (ix2 l 0) fun a => by match a with | ⟨0, _⟩ => rfl | ⟨1, _⟩ => rfl).trans ?_
  refine (shapeCast_apply _ _ _ (ix1 l) ?_).trans (shapeCast_apply _ _ _ (ix2 0 l) ?_)
  · rw [Shape.rowMajor_val_one, Shape.rowMajor_val_two]
    show l.val = l.val * 1 + 0
    omega
  · rw [Shape.rowMajor_val_one, Shape.rowMajor_val_two]
    show 0 * 200 + l.val = l.val
    omega

/-- The present times, laid out as one column, turned into a row and repeated along the history: at (l, b), present
    time b. -/
theorem now_apply (x : FVec Ideal S1024x1 .f32) (l : Fin 200) (b : Fin 1024) :
    broadcastTo S200x1024 (shapeCast S1x1024 (shapeCast S1024 x shapeCasts_S1024x1_S1024) shapeCasts_S1024_S1x1024)
      broadcasts_S1x1024_S200x1024 (ix2 l b) = x (ix2 b 0) := by
  refine (broadcastTo_apply _ _ _ (ix2 0 b) fun a => by match a with | ⟨0, _⟩ => rfl | ⟨1, _⟩ => rfl).trans ?_
  refine (shapeCast_apply _ _ _ (ix1 b) ?_).trans (shapeCast_apply _ _ _ (ix2 b 0) ?_)
  · rw [Shape.rowMajor_val_one, Shape.rowMajor_val_two]
    show b.val = 0 * 1024 + b.val
    omega
  · rw [Shape.rowMajor_val_one, Shape.rowMajor_val_two]
    show b.val * 1 + 0 = b.val
    omega

/-- The history with its leading axis of one dropped: at (l, k), entry (0, l, k). -/
theorem hist_apply (x : IVec S1x200x1000 32) (l : Fin 200) (k : Fin 1000) :
    shapeCast S200x1000 x shapeCasts_S1x200x1000_S200x1000 (ix2 l k) = x (ix3 0 l k) := by
  refine shapeCast_apply _ _ _ (ix3 0 l k) ?_
  rw [Shape.rowMajor_val_three, Shape.rowMajor_val_two]
  show (0 * 200 + l.val) * 1000 + k.val = l.val * 1000 + k.val
  omega

/-! ## The block -/

/-- Element (r, b) of the stored block is the kernel's score of row r of the embedding block at present time b. -/
theorem payload_apply (past : Vec Ideal S1x200 .f32) (now : Vec Ideal S1024x1 .f32) (hist : Vec Ideal S1x200x1000 .i32)
    (emb : Vec Ideal S200x1000 .f32) (r : Fin 200) (b : Fin 1024) :
    k0_pay1 (F := Ideal) past now hist emb (ix2 r b)
      = kernelScore (fun k => emb (ix2 r k)) (fun l k => (((hist (ix3 0 l k)).toInt : ℝ) : EReal)) (fun l => past (ix2 0 l))
          (now (ix2 b 0)) := by
  unfold k0_pay1
  rw [second_product]
  unfold kernelScore
  refine Finset.sum_congr rfl fun l _ => ?_
  rw [first_product]
  refine congrArg₂ (· * ·) (Finset.sum_congr rfl fun k _ => congrArg _ ?_) ?_
  · exact congrArg (fun z : BitVec 32 => ((z.toInt : ℝ) : EReal)) (hist_apply hist l k)
  · exact congrArg Ideal.exp (congrArg₂ (· - ·) (past_apply past l b) (now_apply now l b))

end Cert.KernelIdeal.Block

end
-- ==== Proof.Array.lean ====
/- What the kernel leaves in memory: each grid point writes its 200 rows of the array of scores, the five points fill the
   array, and the operation after the kernel gives the array its trailing axis of one. -/
module

public import proofs.«01_k».proof.Proof.Block
public import proofs.«01_k».proof.Proof.Gen.KernelIdeal.Frame

@[expose] public section

set_option maxRecDepth 16384

noncomputable section

namespace Cert.KernelIdeal.Scored

open Cert.KernelIdeal Cert.KernelIdeal.Gen Cert.KernelIdeal.Block Cert.Scores Idealize.ShloMosaic Idealize.ShloMosaic.TcCoe
  Idealize.ShloMosaic.ValueIdx Idealize.SL.Sem

variable (m : (ℓ : Loc nD τ sig) → Buf (Elt Ideal) ℓ) (ρ : Dev nD → PrngReg)

/-- The array of scores: at (n, b), the kernel's score of row n of the embedding at present time b. -/
def scores (now : Vec Ideal S1024x1 .f32) (past : Vec Ideal S1x200 .f32) (hist : Vec Ideal S1x200x1000 .i32)
    (emb : Vec Ideal S1000x1000 .f32) : Vec Ideal S1000x1024 .f32 := fun i =>
  kernelScore (fun k => emb (ix2 (i 0) k)) (fun l k => (((hist (ix3 0 l k)).toInt : ℝ) : EReal)) (fun l => past (ix2 0 l))
    (now (ix2 (i 1) 0))

/-- The array of scores of the arguments core `c` is launched with. -/
def scoresAt (c : Dev nD) : Vec Ideal S1000x1024 .f32 :=
  scores (m ((c : Thread nD τ).loc main_arg0)) (m ((c : Thread nD τ).loc main_arg1)) (m ((c : Thread nD τ).loc main_arg3))
    (m ((c : Thread nD τ).loc main_arg4))

/-! ## Where the blocks lie -/

/-- The times and the history are loaded whole at every point: their blocks start at zero. -/
theorem index_whole : ∀ t : Fin grid0.N, (∀ a, win0_0.index t a = 0) ∧ (∀ a, win0_1.index t a = 0) ∧ (∀ a, win0_2.index t a = 0) := by
  decide +kernel

/-- The embedding's block and the result's block at point `t` start at the same row, 200 times the point's number, and
    at column zero. -/
theorem index_rows : ∀ t : Fin grid0.N, win0_3.index t 0 = t.val ∧ win0_3.index t 1 = 0 ∧ win0_4.index t 0 = t.val
    ∧ win0_4.index t 1 = 0 := by
  decide +kernel

/-- The present times, read at a point. -/
theorem now_block (c : Dev nD) (t : Fin cfg0.N) (x : S1024x1.Idx) :
    iblk m c 0 t x = m ((c : Thread nD τ).loc main_arg0) x := by
  show V m c main_arg0 ((win0_0.rect t).emb x) = V m c main_arg0 x
  exact congrArg _ (funext fun a => Fin.ext (win0_0.rect_emb_val_of_index_zero t a ((index_whole t).1 a) x))

/-- The past times, read at a point. -/
theorem past_block (c : Dev nD) (t : Fin cfg0.N) (x : S1x200.Idx) :
    iblk m c 1 t x = m ((c : Thread nD τ).loc main_arg1) x := by
  show V m c main_arg1 ((win0_1.rect t).emb x) = V m c main_arg1 x
  exact congrArg _ (funext fun a => Fin.ext (win0_1.rect_emb_val_of_index_zero t a ((index_whole t).2.1 a) x))

/-- The history, read at a point. -/
theorem hist_block (c : Dev nD) (t : Fin cfg0.N) (x : S1x200x1000.Idx) :
    iblk m c 2 t x = m ((c : Thread nD τ).loc main_arg3) x := by
  show V m c main_arg3 ((win0_2.rect t).emb x) = V m c main_arg3 x
  exact congrArg _ (funext fun a => Fin.ext (win0_2.rect_emb_val_of_index_zero t a ((index_whole t).2.2 a) x))

/-- Row `r` of the embedding's block at point `t` is the row of the embedding at which row `r` of the result's block
    lies in the result. -/
theorem emb_block (c : Dev nD) (t : Fin cfg0.N) (r : Fin 200) (b : Fin 1024) (k : Fin 1000) :
    iblk m c 3 t (ix2 r k) = m ((c : Thread nD τ).loc main_arg4) (ix2 ((win0_4.rect t).emb (ix2 r b) 0) k) := by
  show V m c main_arg4 ((win0_3.rect t).emb (ix2 r k)) = V m c main_arg4 _
  refine congrArg _ (funext fun a => Fin.ext ?_)
  match a with
  | ⟨0, _⟩ =>
    show ((win0_3.rect t).emb (ix2 r k) 0 : ℕ) = ((win0_4.rect t).emb (ix2 r b) 0 : ℕ)
    rw [win0_3.rect_emb_val t, win0_4.rect_emb_val t, (index_rows t).1, (index_rows t).2.2.1]
    rfl
  | ⟨1, _⟩ => exact win0_3.rect_emb_val_of_index_zero t 1 (index_rows t).2.1 _

/-! ## The array -/

/-- The offsets of the body's loads and store, as one constant function: two axes, -/
theorem zero_two : (![0, 0] : Fin 2 → Nat) = fun _ => 0 := funext fun a => by fin_cases a <;> rfl
/-- and three. -/
theorem zero_three : (![0, 0, 0] : Fin 3 → Nat) = fun _ => 0 := funext fun a => by fin_cases a <;> rfl

/-- What point `t` writes back is its block of the array of scores. -/
theorem flushed_eq (c : Dev nD) (t : Fin cfg0.N) :
    (dats m 0 c).flushed 4 t = ((cfg0.win 4).blk t).view.read (Elt Ideal) (scoresAt m c) := by
  show (cfg0.win 4).cut (grid0.coords t) ((dats m 0 c).after 4 t) = _
  rw [after0_4]
  unfold out0_4
  rw [View.canon_unit_zero zero_two, View.ld_unit_zero zero_two, View.ld_unit_zero zero_two, View.ld_unit_zero zero_three,
    View.ld_unit_zero zero_two]
  refine funext fun (y : S200x1024.Idx) => ?_
  show k0_pay1 (F := Ideal) (iblk m c 1 t) (iblk m c 0 t) (iblk m c 2 t) (iblk m c 3 t) y
    = scoresAt m c ((win0_4.rect t).emb y)
  obtain ⟨r, b, rfl⟩ : ∃ (r : Fin 200) (b : Fin 1024), y = ix2 r b := ⟨y 0, y 1, eq_ix2 y⟩
  rw [payload_apply]
  have hcol : (ix2 ((win0_4.rect t).emb (ix2 r b) 1) 0 : S1024x1.Idx) = ix2 b 0 := funext fun a => Fin.ext (by
    match a with
    | ⟨0, _⟩ => exact win0_4.rect_emb_val_of_index_zero t 1 (index_rows t).2.2.2 _
    | ⟨1, _⟩ => rfl)
  unfold scoresAt scores
  rw [hcol]
  congr 1
  · exact funext fun k => emb_block m c t r b k
  · exact funext fun l => funext fun k => congrArg (fun z : BitVec 32 => ((z.toInt : ℝ) : EReal)) (hist_block m c t _)
  · exact funext fun l => past_block m c t _
  · exact now_block m c t _

/-- The result's block at point `t`: its rows start at 200 times the point's number and are 200, its columns are all. -/
theorem block_extent : ∀ t : Fin grid0.N, win0_4.index t 0 * win0_4.size 0 = t.val * 200 ∧ win0_4.xsize (grid0.coords t) 0 = 200
    ∧ win0_4.index t 1 * win0_4.size 1 = 0 ∧ win0_4.xsize (grid0.coords t) 1 = 1024 := by
  decide +kernel

/-- An index of the result lies in point `t`'s block when its row is one of the point's 200. -/
theorem mem_block (t : Fin cfg0.N) (i : S1000x1024.Idx) (h : t.val * 200 ≤ (i 0 : ℕ) ∧ (i 0 : ℕ) < t.val * 200 + 200) :
    i ∈ ((cfg0.win 4).blk t).view.set := by
  show i ∈ ((View.whole main_v0).slice (win0_4.rect t)).set
  rw [View.set_slice_whole, Rect.mem_set_unit]
  have hcol : (i 1 : ℕ) < 1024 := (i 1).isLt
  obtain ⟨e0, e1, e2, e3⟩ := block_extent t
  intro a
  match a with
  | ⟨0, _⟩ =>
    show win0_4.index t 0 * win0_4.size 0 ≤ (i 0 : ℕ)
      ∧ (i 0 : ℕ) < win0_4.index t 0 * win0_4.size 0 + win0_4.xsize (grid0.coords t) 0
    rw [e0, e1]
    exact h
  | ⟨1, _⟩ =>
    show win0_4.index t 1 * win0_4.size 1 ≤ (i 1 : ℕ)
      ∧ (i 1 : ℕ) < win0_4.index t 1 * win0_4.size 1 + win0_4.xsize (grid0.coords t) 1
    rw [e2, e3]
    omega

/-- Every index of the result lies in some point's block: the one its row divided by 200 names. -/
theorem cover (i : S1000x1024.Idx) :
    ∃ t : Fin cfg0.N, (cfg0.win 4).flush t = true ∧ i ∈ ((cfg0.win 4).blk t).view.set := by
  have hrow : (i 0 : ℕ) < 1000 := (i 0).isLt
  have hN : cfg0.N = 5 := N_0
  have ht : (i 0 : ℕ) / 200 < cfg0.N := by omega
  refine ⟨⟨(i 0 : ℕ) / 200, ht⟩, flush0_4 _, mem_block _ i ?_⟩
  dsimp only
  omega

/-- The kernel's array ends holding the scores. -/
theorem array_eq (c : Dev nD) : (dats m 0 c).arrAt 4 cfg0.N = scoresAt m c :=
  (dats m 0 c).arrAt_eq_of_cover 4 (scoresAt m c) (fun t _ => flushed_eq m c t) cover

/-! ## The result -/

/-- The program's result: the array of scores with a trailing axis of one. -/
def result (c : Dev nD) : Vec Ideal S1000x1024x1 .f32 :=
  broadcastInDim S1000x1024x1 ![0, 1] bcast_S1000x1024_S1000x1024x1_0_1 (scoresAt m c)

/-- The operation after the kernel leaves the result in its buffer: it reads the kernel's array. -/
theorem tail_eq (c : Dev nD) : Pipeline.afterTail₀ cfgs (dats m) 0 (V0 m) [hostOps1] c main_v1 = result m c := by
  unfold Pipeline.afterTail₀ result
  simp only [hostOps1, List.flatten_cons, List.flatten_nil, List.append_nil]
  rw [StableHlo.after_cons, StableHlo.after_nil]
  refine (StableHlo.unary_result main_v0 main_v1 _ _ _ _).trans (congrArg _ ?_)
  exact (Pipeline.withArrays_arr spec0 launch0.win.arr_inj c (V0 m c) _ 4).trans (array_eq m c)

/-- Element (n, b, 0) of the result is the kernel's score of row n at present time b. -/
theorem result_apply (c : Dev nD) (n : Fin 1000) (b : Fin 1024) (z : Fin 1) :
    result m c (ix3 n b z) = scoresAt m c (ix2 n b) :=
  broadcastInDim_apply _ _ _ _ (ix2 n b) fun a => by match a with | ⟨0, _⟩ => rfl | ⟨1, _⟩ => rfl

/-- The run: from any memory the program ends with the result in its buffer and its arguments unchanged. -/
theorem run : θ_run (defs (F := Ideal)) (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
      ⟨(h.2 c main_v1 (Pipeline.mem_restRefs_of main_v1 (by decide) (by decide))).trans (tail_eq m c), h.1 c⟩)
    (θ_run_and (unchanged m ρ) ((θ_run defs _ _).mono (fun _ h c => (h c).2) (run_main m ρ)))

end Cert.KernelIdeal.Scored

end
-- ==== Proof.Reference.lean ====
/- What the reference computes: element (n, b, 0) of its result is the reference's score of row n of the embedding at
   the b-th present time. -/
module

public import proofs.«01_k».proof.Proof.Scores
public import proofs.«01_k».proof.Proof.Gen.ReferenceIdeal.Read

@[expose] public section

noncomputable section

namespace Cert.ReferenceIdeal.Scored

open Cert.ReferenceIdeal Cert.ReferenceIdeal.Gen Cert.ReferenceIdeal.Read Cert.Scores Idealize.ShloMosaic
  Idealize.ShloMosaic.ValueIdx

/-- The factor the reference multiplies an elapsed time by, the literal minus one, is the number minus one. -/
theorem ofBits_neg_one : Ideal.ofBits .f32 0xBF800000#32 = -1 := by
  simp [Ideal.ofBits, Ideal.ieee, -EReal.coe_mul]; norm_num

/-- A weight: at (b, l), the exponential of minus one times present time b less past time l. -/
theorem weight_apply (now : (⟨S1024x1, .f32⟩ : BufTy).Contents (Elt Ideal)) (past : (⟨S1x200, .f32⟩ : BufTy).Contents (Elt Ideal))
    (b : Fin 1024) (l : Fin 200) :
    val_main_v7 (F := Ideal) now past (ix2 b l) = Ideal.exp (-1 * (now (ix2 b 0) - past (ix2 0 l))) := by
  rw [val_main_v7_apply, val_main_v6_apply, val_main_v5_apply, val_main_cst_apply, val_main_v4_apply, val_main_v3_apply,
    val_main_v2_apply, val_main_v1_apply, val_main_v0_apply]
  have hnow : idx_main_v0 (idx_main_v1 (idx_main_v2 (ix2 b l))) = ix2 b 0 := funext fun a => Fin.ext (by
    have hb := b.isLt
    have hl := l.isLt
    match a with
    | ⟨0, _⟩ =>
      show (((0 * 1024 + (b.val * 200 + l.val) / 200 % 1024) * 1 + 0) * 1 + 0) / 1 = b.val
      omega
    | ⟨1, _⟩ => rfl)
  have hpast : idx_main_v3 (ix2 b l) = ix2 0 l := funext fun a => by match a with | ⟨0, _⟩ => rfl | ⟨1, _⟩ => rfl
  rw [hnow, hpast]
  show Ideal.exp (Ideal.ofBits .f32 0xBF800000#32 * (now (ix2 b 0) - past (ix2 0 l))) = _
  rw [ofBits_neg_one]

/-- The history against the embedding: at (l, n), past event l against row n. -/
theorem event_apply (hist : (⟨S1x200x1000, .i32⟩ : BufTy).Contents (Elt Ideal))
    (emb : (⟨S1000x1000, .f32⟩ : BufTy).Contents (Elt Ideal)) (l : Fin 200) (n : Fin 1000) :
    val_main_v11 (F := Ideal) hist emb (ix2 l n)
      = ∑ k : Fin 1000, (((hist (ix3 0 l k)).toInt : ℝ) : EReal) * emb (ix2 n k) := by
  rw [val_main_v11_apply]
  refine Finset.sum_congr rfl fun k _ => ?_
  rw [val_main_v9_apply, val_main_v8_apply, val_main_v10_apply]
  have hhist : idx_main_v8 (lidx_main_v11 (ix2 l n) k) = ix3 0 l k := funext fun a => Fin.ext (by
    have hk := k.isLt
    have hl := l.isLt
    match a with
    | ⟨0, _⟩ => rfl
    | ⟨1, _⟩ =>
      show (l.val * 1000 + k.val) / 1000 % 200 = l.val
      omega
    | ⟨2, _⟩ =>
      show (l.val * 1000 + k.val) % 1000 = k.val
      omega)
  have hemb : idx_main_v10 (ridx_main_v11 (ix2 l n) k) = ix2 n k :=
    funext fun a => by match a with | ⟨0, _⟩ => rfl | ⟨1, _⟩ => rfl
  rw [hhist, hemb]
  rfl

/-- Element (n, b, 0) of the reference's result is the reference's score of row n at present time b. -/
theorem result_apply (now : (⟨S1024x1, .f32⟩ : BufTy).Contents (Elt Ideal)) (past : (⟨S1x200, .f32⟩ : BufTy).Contents (Elt Ideal))
    (hist : (⟨S1x200x1000, .i32⟩ : BufTy).Contents (Elt Ideal)) (emb : (⟨S1000x1000, .f32⟩ : BufTy).Contents (Elt Ideal))
    (n : Fin 1000) (b : Fin 1024) (z : Fin 1) :
    val_main_v14 (F := Ideal) now past hist emb (ix3 n b z)
      = referenceScore (fun k => emb (ix2 n k)) (fun l k => (((hist (ix3 0 l k)).toInt : ℝ) : EReal))
          (fun l => past (ix2 0 l)) (now (ix2 b 0)) := by
  rw [val_main_v14_apply, val_main_v13_apply, val_main_v12_apply]
  unfold referenceScore
  refine Finset.sum_congr rfl fun l _ => ?_
  have hw : lidx_main_v12 (idx_main_v13 (idx_main_v14 (ix3 n b z))) l = ix2 b l :=
    funext fun a => by match a with | ⟨0, _⟩ => rfl | ⟨1, _⟩ => rfl
  have he : ridx_main_v12 (idx_main_v13 (idx_main_v14 (ix3 n b z))) l = ix2 l n :=
    funext fun a => by match a with | ⟨0, _⟩ => rfl | ⟨1, _⟩ => rfl
  rw [hw, he, weight_apply, event_apply]

end Cert.ReferenceIdeal.Scored

end
-- ==== Proof.Condition.lean ====
/- What the condition says of an event time of the batch and a time of the history: they are different, or the latter is
   finite. -/
module

public import proofs.«01_k».proof.Pre_no_shared_infinity
public import Idealize.ShloMosaic.Lib.Pipeline.Value
public import Idealize.ShloMosaic.Lib.ReduceAll
public import Idealize.ShloMosaic.Lib.ValueIdx
public import Idealize.ShloMosaic.PureOps.Ideal.Laws

@[expose] public section

noncomputable section

namespace Cert.Condition

open Cert.Pre_no_shared_infinity Idealize.ShloMosaic Idealize.ShloMosaic.ValueIdx

variable [Facts]
open Facts

/-- The bound the condition compares a magnitude with, the literal infinity, is the top extended real. -/
theorem ofBits_inf : Ideal.ofBits .f32 0x7F800000#32 = ⊤ := by
  simp [Ideal.ofBits, Ideal.ieee]

/-- An extended real whose magnitude is below the top is neither infinity. -/
theorem finite_of_abs_lt (a : EReal) (h : max a (-a) < ⊤) : a ≠ ⊥ ∧ a ≠ ⊤ := by
  refine ⟨?_, ?_⟩
  · rintro rfl
    simp at h
  · rintro rfl
    simp at h

/-- A comparison's bit is one when the compared relation holds. -/
theorem of_bit {p : Prop} [Decidable p] (h : BitVec.ofBool (decide p) = 1#1) : p := by
  by_contra hp
  rw [decide_eq_false hp] at h
  exact absurd h (by decide)

/-- Where the condition holds, time b of the batch and time l of the history differ, or the latter is no infinity. -/
theorem not_shared (now : FVec Ideal S1024x1 .f32) (past : FVec Ideal S1x200 .f32) (ci : IVec S1024 32)
    (hist : IVec S1x200x1000 32) (emb : FVec Ideal S1000x1000 .f32)
    (h : fn (F := Ideal) now past ci hist emb = fun _ => 1#1) (b : Fin 1024) (l : Fin 200) :
    now (ix2 b 0) ≠ past (ix2 0 l) ∨ (past (ix2 0 l) ≠ ⊥ ∧ past (ix2 0 l) ≠ ⊤) := by
  have hall := congrFun h ix0
  unfold fn at hall
  haveI : Subsingleton S_.Idx := ⟨fun x y => funext fun a => a.elim0⟩
  have hbit := Host.reduce_andi_all _ _ _ _ _ hall (ix2 b l)
  have hnow : broadcastInDim S1024x200 ![0, 1] bcast_S1024x1_S1024x200_0_1 now (ix2 b l) = now (ix2 b 0) :=
    broadcastInDim_apply _ _ _ _ _ fun a => by match a with | ⟨0, _⟩ => rfl | ⟨1, _⟩ => rfl
  have hpast : broadcastInDim S1024x200 ![0, 1] bcast_S1x200_S1024x200_0_1 past (ix2 b l) = past (ix2 0 l) :=
    broadcastInDim_apply _ _ _ _ _ fun a => by match a with | ⟨0, _⟩ => rfl | ⟨1, _⟩ => rfl
  rcases IntOp.ori_eq_one.1 hbit with hne | hfin
  · left
    have hne' : BitVec.ofBool (decide (broadcastInDim S1024x200 ![0, 1] bcast_S1024x1_S1024x200_0_1 now (ix2 b l)
        ≠ broadcastInDim S1024x200 ![0, 1] bcast_S1x200_S1024x200_0_1 past (ix2 b l))) = 1#1 := hne
    rw [hnow, hpast] at hne'
    exact of_bit hne'
  · right
    refine finite_of_abs_lt _ ?_
    have hcol := (broadcastInDim_apply _ bcast_S1x200_S1024x200_0_1 _ (ix2 b l) (ix2 0 l)
      fun a => by match a with | ⟨0, _⟩ => rfl | ⟨1, _⟩ => rfl).symm.trans hfin
    have hlt : BitVec.ofBool (decide (max (past (ix2 0 l)) (-(past (ix2 0 l))) < Ideal.ofBits .f32 0x7F800000#32)) = 1#1 := hcol
    rw [ofBits_inf] at hlt
    exact of_bit hlt

end Cert.Condition

end
-- ==== Proof.lean ====
/- The claim, assembled: each program ends with its arguments unchanged and no semaphore held, and, where no event time
   of the batch is the same infinity as a time of the history, the kernel's result and the reference's, computed with
   extended reals, are equal element by element. -/
module

public import proofs.«01_k».proof.Defs
public import proofs.«01_k».proof.Proof.Gen.Kernel.Frame
public import proofs.«01_k».proof.Proof.Gen.Pre_no_shared_infinity
public import proofs.«01_k».proof.Proof.Array
public import proofs.«01_k».proof.Proof.Reference
public import proofs.«01_k».proof.Proof.Condition
public import Idealize.ShloMosaic.Lib.Quiescent

@[expose] public section

noncomputable section

namespace Cert.Proof

open Idealize.ShloMosaic Idealize.ShloMosaic.ValueIdx Idealize.SL.Sem Cert.Scores

/-- The reference is host operations only: it ends with its arguments unchanged and no semaphore held. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run _ _ _).mono (fun r h => ⟨fun c => (h c).2, sem_eq_zero_of_no_sems (by decide) r.2⟩)
    (Cert.ReferenceIdeal.Value.run m g)

/-- Where the condition holds, the kernel's result is the reference's on the same arguments. -/
theorem results_eq (m : (ℓ : Loc Cert.KernelIdeal.nD Cert.KernelIdeal.τ Cert.KernelIdeal.sig) → Buf (Elt Ideal) ℓ)
    (h : Cert.Pre_KernelIdeal_no_shared_infinity m) (c : Dev Cert.KernelIdeal.nD) :
    Cert.ReferenceIdeal.Read.val_main_v14 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Scored.result m c := by
  refine funext fun (i : Cert.KernelIdeal.S1000x1024x1.Idx) => ?_
  obtain ⟨n, b, z, rfl⟩ : ∃ (n : Fin 1000) (b : Fin 1024) (z : Fin 1), i = ix3 n b z := ⟨i 0, i 1, i 2, eq_ix3 i⟩
  rw [Cert.ReferenceIdeal.Scored.result_apply, Cert.KernelIdeal.Scored.result_apply]
  exact (kernelScore_eq_referenceScore _ _ _ _ fun l => Cert.Condition.not_shared _ _ _ _ _ (h c) b l).symm

/-- Everything the certificate claims. -/
theorem claim : Cert.Claim := ⟨Cert.Kernel.Gen.facts, Cert.KernelIdeal.Gen.facts, Cert.ReferenceIdeal.Gen.facts,
  Cert.Pre_no_shared_infinity.Gen.facts,
  fun m g _ => Cert.Kernel.Gen.frame m g,
  fun m g _ => Cert.KernelIdeal.Gen.frame m g,
  fun m g _ => Cert.KernelIdeal.Gen.frame m g,
  fun m g _ => reference_frame m g,
  fun m g _ => reference_frame m g,
  trivial,
  fun m g m' g' hpre hargs => ⟨Cert.KernelIdeal.Scored.result m, Cert.KernelIdeal.Scored.run m g,
    (θ_run _ _ _).mono (fun _ h c => by
      refine ⟨(h c).1.trans ((Cert.ReferenceIdeal.Read.val_main_v14_eq _ _ _ _).trans ?_), (h c).2⟩
      obtain ⟨e0, e1, _, e3, e4⟩ := hargs c
      rw [e0, e1, e3, e4]
      exact results_eq m hpre c) (Cert.ReferenceIdeal.Value.run m' g')⟩⟩

end Cert.Proof

end
